-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x8192x3 : Shape := ⟨3, ![1, 8192, 3]⟩
abbrev S_ : Shape := ⟨0, ![]⟩

class Facts : Prop where
  bcast_S_S1x8192x3 : S_.BroadcastsInDim S1x8192x3 (![] : Fin 0 → Fin S1x8192x3.rank)
  reducesTo_S1x8192x3_S_d0_1_2 : S1x8192x3.ReducesTo [0, 1, 2] S_
  h_S_ : 0 < S_.numel

variable [Facts]

def fn {F : FTy → Type} [FloatOps F] (main_arg0 : FVec F S1x8192x3 .f32) : IVec S_ 1 :=
  let main_v0 : FVec F S1x8192x3 .f32 := Host.absf main_arg0
  let main_cst : FVec F S_ .f32 := constant S_ .f32 0x7F800000#32
  let main_v1 : FVec F S1x8192x3 .f32 := broadcastInDim S1x8192x3 ![] bcast_S_S1x8192x3 main_cst
  let main_v2 : IVec S1x8192x3 1 := cmpf .olt main_v0 main_v1
  let main_c : IVec S_ 1 := constantI S_ 1 1#1
  let main_v3 : IVec S_ 1 := (fun x v => Host.reduce IntOp.andi x v reducesTo_S1x8192x3_S_d0_1_2 h_S_) main_v2 main_c
  main_v3
-- ==== Kernel.lean ====
abbrev S1x8192x3 : Shape := ⟨3, ![1, 8192, 3]⟩
abbrev S_ : Shape := ⟨0, ![]⟩
abbrev S1x8192 : Shape := ⟨2, ![1, 8192]⟩
abbrev S1x1x8192 : Shape := ⟨3, ![1, 1, 8192]⟩
abbrev S1x3x8192 : Shape := ⟨3, ![1, 3, 8192]⟩
abbrev S8192x3 : Shape := ⟨2, ![8192, 3]⟩
abbrev S3x8192 : Shape := ⟨2, ![3, 8192]⟩
abbrev S8192x160 : Shape := ⟨2, ![8192, 160]⟩
abbrev S8192x16 : Shape := ⟨2, ![8192, 16]⟩
abbrev S128x3 : Shape := ⟨2, ![128, 3]⟩
abbrev S128x160 : Shape := ⟨2, ![128, 160]⟩
abbrev S128x16 : Shape := ⟨2, ![128, 16]⟩
abbrev S128 : Shape := ⟨1, ![128]⟩
abbrev S128x1 : Shape := ⟨2, ![128, 1]⟩
abbrev S128x8192 : Shape := ⟨2, ![128, 8192]⟩
abbrev S128x10 : Shape := ⟨2, ![128, 10]⟩
abbrev S1x8192x160 : Shape := ⟨3, ![1, 8192, 160]⟩
abbrev S1x8192x16 : Shape := ⟨3, ![1, 8192, 16]⟩
abbrev S1x8192x16x10 : Shape := ⟨4, ![1, 8192, 16, 10]⟩

abbrev nBuf : Space → Nat
  | .hbm => 15
  | .vmem => 9
  | .smem => 0
  | _ => 0

abbrev bufTy : (tb : Table) → Fin (tcTables nBuf tb) → BufTy
  | .hbm, ⟨0, _⟩ => ⟨S1x8192x3, .f32⟩
  | .hbm, ⟨1, _⟩ => ⟨S1x8192x3, .f32⟩
  | .hbm, ⟨2, _⟩ => ⟨S_, .f32⟩
  | .hbm, ⟨3, _⟩ => ⟨S1x8192, .f32⟩
  | .hbm, ⟨4, _⟩ => ⟨S1x1x8192, .f32⟩
  | .hbm, ⟨5, _⟩ => ⟨S1x3x8192, .f32⟩
  | .hbm, ⟨6, _⟩ => ⟨S8192x3, .f32⟩
  | .hbm, ⟨7, _⟩ => ⟨S3x8192, .f32⟩
  | .hbm, ⟨8, _⟩ => ⟨S1x8192, .f32⟩
  | .hbm, ⟨9, _⟩ => ⟨S8192x3, .f32⟩
  | .hbm, ⟨10, _⟩ => ⟨S8192x160, .f32⟩
  | .hbm, ⟨11, _⟩ => ⟨S8192x16, .i32⟩
  | .hbm, ⟨12, _⟩ => ⟨S1x8192x160, .f32⟩
  | .hbm, ⟨13, _⟩ => ⟨S1x8192x16, .i32⟩
  | .hbm, ⟨14, _⟩ => ⟨S1x8192x16x10, .f32⟩
  | .local _ .vmem, ⟨0, _⟩ => ⟨S128x3, .f32⟩
  | .local _ .vmem, ⟨1, _⟩ => ⟨S128x3, .f32⟩
  | .local _ .vmem, ⟨2, _⟩ => ⟨S3x8192, .f32⟩
  | .local _ .vmem, ⟨3, _⟩ => ⟨S1x8192, .f32⟩
  | .local _ .vmem, ⟨4, _⟩ => ⟨S8192x3, .f32⟩
  | .local _ .vmem, ⟨5, _⟩ => ⟨S128x160, .f32⟩
  | .local _ .vmem, ⟨6, _⟩ => ⟨S128x160, .f32⟩
  | .local _ .vmem, ⟨7, _⟩ => ⟨S128x16, .i32⟩
  | .local _ .vmem, ⟨8, _⟩ => ⟨S128x16, .i32⟩
  | _, _ => ⟨S1x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x160 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x8192x3 : Shape := ⟨3, ![1, 8192, 3]⟩
abbrev S_ : Shape := ⟨0, ![]⟩
abbrev S1x8192 : Shape := ⟨2, ![1, 8192]⟩
abbrev S1x8192x1 : Shape := ⟨3, ![1, 8192, 1]⟩
abbrev S1x1x8192 : Shape := ⟨3, ![1, 1, 8192]⟩
abbrev S1x8192x8192 : Shape := ⟨3, ![1, 8192, 8192]⟩
abbrev S1x8192x16 : Shape := ⟨3, ![1, 8192, 16]⟩
abbrev S1x8192x16x1 : Shape := ⟨4, ![1, 8192, 16, 1]⟩
abbrev S1x8192x16x3 : Shape := ⟨4, ![1, 8192, 16, 3]⟩
abbrev S1x8192x1x3 : Shape := ⟨4, ![1, 8192, 1, 3]⟩
abbrev S1x8192x16x10 : Shape := ⟨4, ![1, 8192, 16, 10]⟩

abbrev nBuf : Space → Nat
  | .hbm => 32
  | .vmem => 0
  | .smem => 0
  | _ => 0

abbrev bufTy : (tb : Table) → Fin (tcTables nBuf tb) → BufTy
  | .hbm, ⟨0, _⟩ => ⟨S1x8192x3, .f32⟩
  | .hbm, ⟨1, _⟩ => ⟨S1x8192x3, .f32⟩
  | .hbm, ⟨2, _⟩ => ⟨S_, .f32⟩
  | .hbm, ⟨3, _⟩ => ⟨S1x8192, .f32⟩
  | .hbm, ⟨4, _⟩ => ⟨S1x8192x1, .f32⟩
  | .hbm, ⟨5, _⟩ => ⟨S1x1x8192, .f32⟩
  | .hbm, ⟨6, _⟩ => ⟨S1x8192x8192, .f32⟩
  | .hbm, ⟨7, _⟩ => ⟨S1x8192x8192, .f32⟩
  | .hbm, ⟨8, _⟩ => ⟨S1x8192x8192, .f32⟩
  | .hbm, ⟨9, _⟩ => ⟨S1x8192x8192, .f32⟩
  | .hbm, ⟨10, _⟩ => ⟨S_, .f32⟩
  | .hbm, ⟨11, _⟩ => ⟨S1x8192x8192, .f32⟩
  | .hbm, ⟨12, _⟩ => ⟨S1x8192x8192, .f32⟩
  | .hbm, ⟨13, _⟩ => ⟨S1x8192x8192, .f32⟩
  | .hbm, ⟨14, _⟩ => ⟨S1x8192x8192, .f32⟩
  | .hbm, ⟨15, _⟩ => ⟨S1x8192x16, .f32⟩
  | .hbm, ⟨16, _⟩ => ⟨S1x8192x16, .i32⟩
  | .hbm, ⟨17, _⟩ => ⟨S1x8192x16, .f32⟩
  | .hbm, ⟨18, _⟩ => ⟨S_, .i32⟩
  | .hbm, ⟨19, _⟩ => ⟨S1x8192x16, .i32⟩
  | .hbm, ⟨20, _⟩ => ⟨S1x8192x16, .i1⟩
  | .hbm, ⟨21, _⟩ => ⟨S_, .i32⟩
  | .hbm, ⟨22, _⟩ => ⟨S1x8192x16, .i32⟩
  | .hbm, ⟨23, _⟩ => ⟨S1x8192x16, .i32⟩
  | .hbm, ⟨24, _⟩ => ⟨S1x8192x16, .i32⟩
  | .hbm, ⟨25, _⟩ => ⟨S1x8192x16x1, .i32⟩
  | .hbm, ⟨26, _⟩ => ⟨S1x8192x16x3, .f32⟩
  | .hbm, ⟨27, _⟩ => ⟨S1x8192x1x3, .f32⟩
  | .hbm, ⟨28, _⟩ => ⟨S1x8192x16x3, .f32⟩
  | .hbm, ⟨29, _⟩ => ⟨S1x8192x16x3, .f32⟩
  | .hbm, ⟨30, _⟩ => ⟨S1x8192x16x1, .f32⟩
  | .hbm, ⟨31, _⟩ => ⟨S1x8192x16x10, .f32⟩
  | _, _ => ⟨S1x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_values : Ref sig .tc := ⟨.hbm, 15, rfl⟩
abbrev main_indices : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Order.lean ====
/-
  The order of a stable sort, and the rounds of a masked minimum, as plain mathematics.

  A stable sort by "greater first" of the negated values lists the positions by value, ties by position.
  Taking the minimum, then the first position that attains it, then overwriting that position by `⊤`, over and over,
  visits the positions in the same order, as long as no value is `⊤`.
-/
module

public import Idealize.ShloMosaic.PureOps.Ideal
public import Idealize.ShloMosaic.Lib.SortFacts

@[expose] public section

noncomputable section

namespace Cert.Knn

open Idealize.ShloMosaic

/-- Position `a` comes before position `b` when its value is less, or equal and the position smaller. -/
def Precedes {n : ℕ} (v : Fin n → EReal) (a b : Fin n) : Prop := v a < v b ∨ (v a = v b ∧ a < b)

/-- Inserting a position smaller than all those of an ordered list leaves the list ordered. -/
theorem pairwise_insert {n : ℕ} (v : Fin n → EReal) (before : Fin n → Fin n → Bool)
    (hb : ∀ a b, before a b = true ↔ v a < v b) (a : Fin n) (l : List (Fin n)) (ha : ∀ b ∈ l, a < b)
    (hl : l.Pairwise (Precedes v)) : (insertBefore before a l).Pairwise (Precedes v) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore before a l).mem_iff.mp hc) with rfl | hc'
      · exact .inl ((hb _ _).mp h)
      · exact hl.1 c hc'
    · rename_i h
      have hab : v a ≤ v b := not_lt.mp fun hlt => h ((hb b a).mpr hlt)
      refine List.pairwise_cons.mpr ⟨fun c hc => ?_, List.pairwise_cons.mpr hl⟩
      have hbc : v b ≤ v c := by
        rcases List.mem_cons.mp hc with rfl | hc'
        · exact le_rfl
        · rcases hl.1 c hc' with h1 | h1
          · exact h1.le
          · exact h1.1.le
      rcases (hab.trans hbc).lt_or_eq with h1 | h1
      · exact .inl h1
      · exact .inr ⟨h1, ha c hc⟩

/-- A stable sort of an increasing list of positions is in the order `Precedes`. -/
theorem pairwise_sort {n : ℕ} (v : Fin n → EReal) (before : Fin n → Fin n → Bool)
    (hb : ∀ a b, before a b = true ↔ v a < v b) (l : List (Fin n)) (hl : l.Pairwise (· < ·)) :
    (stableSort before l).Pairwise (Precedes v) := by
  induction l with
  | nil => exact List.Pairwise.nil
  | cons a l ih =>
    rw [List.pairwise_cons] at hl
    unfold stableSort
    refine pairwise_insert v before hb a _ (fun b h => hl.1 b ?_) (ih hl.2)
    exact (perm_stableSort before l).mem_iff.mp h

/-- The sorting permutation lists the positions in the order `Precedes`. -/
theorem sortedFrom_precedes {n : ℕ} (v : Fin n → EReal) (before : Fin n → Fin n → Bool)
    (hb : ∀ a b, before a b = true ↔ v a < v b) (i j : Fin n) (hij : i < j) :
    Precedes v (sortedFrom before i) (sortedFrom before j) := by
  have hp := List.pairwise_iff_get.mp (pairwise_sort v before hb (List.finRange n) (List.pairwise_lt_finRange n))
  unfold sortedFrom
  exact hp _ _ hij

/-- THE ORDER of the positions by value, ties by position: entry `k` is the position in place `k`. -/
def order {n : ℕ} (v : Fin n → EReal) : Fin n → Fin n := sortedFrom fun a b => decide (v a < v b)

theorem order_precedes {n : ℕ} (v : Fin n → EReal) (i j : Fin n) (hij : i < j) : Precedes v (order v i) (order v j) :=
  sortedFrom_precedes v _ (fun _ _ => decide_eq_true_iff) i j hij

theorem order_injective {n : ℕ} (v : Fin n → EReal) : Function.Injective (order v) := sortedFrom_injective _

theorem order_surjective {n : ℕ} (v : Fin n → EReal) : Function.Surjective (order v) := sortedFrom_surjective _

/-- The values that remain after `k` rounds: the positions that the order visits before `k` are `⊤`. -/
def rest {n : ℕ} (v : Fin n → EReal) (k : ℕ) (j : Fin n) : EReal :=
  open Classical in if ∃ i : Fin n, i.val < k ∧ order v i = j then ⊤ else v j

theorem rest_zero {n : ℕ} (v : Fin n → EReal) (j : Fin n) : rest v 0 j = v j := by
  unfold rest
  exact if_neg fun ⟨i, h, _⟩ => absurd h (Nat.not_lt_zero _)

/-- One more round overwrites the position visited in it. -/
theorem rest_succ {n : ℕ} (v : Fin n → EReal) (k : Fin n) (j : Fin n) :
    rest v (k.val + 1) j = if j = order v k then ⊤ else rest v k.val j := by
  unfold rest
  by_cases hj : j = order v k
  · rw [if_pos hj, if_pos ⟨k, Nat.lt_succ_self _, hj.symm⟩]
  · rw [if_neg hj]
    refine if_congr ⟨fun ⟨i, h, e⟩ => ⟨i, ?_, e⟩, fun ⟨i, h, e⟩ => ⟨i, h.trans (Nat.lt_succ_self _), e⟩⟩ rfl rfl
    rcases Nat.lt_succ_iff_lt_or_eq.mp h with h | h
    · exact h
    · exact absurd (Fin.ext h ▸ e.symm) hj

variable {n : ℕ} {v : Fin n → EReal}

/-- At the position that round `k` visits, the value is still there. -/
theorem rest_self (k : Fin n) : rest v k.val (order v k) = v (order v k) := by
  unfold rest
  exact if_neg fun ⟨i, h, e⟩ => absurd (congrArg Fin.val (order_injective v e)) h.ne

/-- What remains before round `k` is at least the value that round `k` visits; where it is equal, the position is
    not smaller. -/
theorem rest_ge (hv : ∀ j, v j ≠ ⊤) (k j : Fin n) :
    v (order v k) < rest v k.val j ∨ (v (order v k) = rest v k.val j ∧ order v k ≤ j) := by
  unfold rest
  split
  · exact .inl (lt_top_iff_ne_top.mpr (hv _))
  · rename_i h
    obtain ⟨l, rfl⟩ := order_surjective v j
    have hkl : k ≤ l := not_lt.mp fun hlt => h ⟨l, hlt, rfl⟩
    rcases hkl.lt_or_eq with h1 | rfl
    · rcases order_precedes v k l h1 with h2 | h2
      · exact .inl h2
      · exact .inr ⟨h2.1, h2.2.le⟩
    · exact .inr ⟨rfl, le_rfl⟩

/-- THE ROUND'S MINIMUM is the value of the position that the order visits. -/
theorem rest_inf (hv : ∀ j, v j ≠ ⊤) (k : Fin n) :
    (Finset.univ.inf fun j => rest v k.val j) = v (order v k) := by
  refine le_antisymm ((Finset.inf_le (Finset.mem_univ (order v k))).trans_eq (rest_self k)) ?_
  refine Finset.le_inf fun j _ => ?_
  rcases rest_ge hv k j with h | h
  · exact h.le
  · exact h.1.le

/-- THE ROUND'S POSITION, as the least of the positions (as numbers) that attain the minimum. -/
theorem rest_first (hv : ∀ j, v j ≠ ⊤) (k : Fin n) :
    (Finset.univ.inf fun j : Fin n => if rest v k.val j = v (order v k) then ((j.val : ℝ) : EReal) else ⊤)
      = (((order v k).val : ℝ) : EReal) := by
  refine le_antisymm ((Finset.inf_le (Finset.mem_univ (order v k))).trans_eq ?_) ?_
  · exact if_pos (rest_self k)
  · refine Finset.le_inf fun j _ => ?_
    split
    · rename_i h
      rcases rest_ge hv k j with h1 | h1
      · exact absurd h h1.ne'
      · exact EReal.coe_le_coe_iff.mpr (Nat.cast_le.mpr h1.2)
    · exact le_top

end Cert.Knn

end
-- ==== Proof.Spec.lean ====
/-
  The nearest neighbours of a cloud of 8192 points, and the features made of them: the mathematics that the kernel and
  the reference are both compared with.
-/
module

public import Idealize.ShloMosaic.PureOps.Ideal
public import proofs.«01_k».proof.Proof.Order

@[expose] public section

noncomputable section

namespace Cert.Knn

open Idealize.ShloMosaic

/-- A cloud of points: the three coordinates of each of the 8192 points. -/
abbrev Cloud := Fin 8192 → Fin 3 → EReal

/-- The dot product of points `n` and `j`. -/
def dot (p : Cloud) (n j : Fin 8192) : EReal := ∑ a, p n a * p j a

/-- The squared distance of points `n` and `j`, expanded: `|n|² + |j|² − 2⟨n, j⟩`. -/
def pairDist (p : Cloud) (n j : Fin 8192) : EReal :=
  dot p n n + dot p j j - Ideal.ofBits .f32 0x40000000#32 * dot p n j

/-- The `k`-th nearest point to point `n`: place `k` in the order of the distances from `n`, ties by index. -/
def nearest (p : Cloud) (n : Fin 8192) (k : Fin 16) : Fin 8192 := order (pairDist p n) (k.castLE (by decide))

/-- The ten features of a point `x` and its neighbor `y` at distance `m`: the distance, the difference, `x`, `y`. -/
def tenFeatures (m : EReal) (x y : Fin 3 → EReal) (c : Fin 10) : EReal :=
  if c.val < 1 then m
  else if h : c.val - 1 < 3 then x ⟨c.val - 1, h⟩ - y ⟨c.val - 1, h⟩
  else if h : c.val - 1 - 3 < 3 then x ⟨c.val - 1 - 3, h⟩
  else y ⟨c.val - 1 - 3 - 3, by omega⟩

/-- Feature `c` of point `n` and its `k`-th nearest point. -/
def feature (p : Cloud) (n : Fin 8192) (k : Fin 16) (c : Fin 10) : EReal :=
  tenFeatures (pairDist p n (nearest p n k)) (p n) (p (nearest p n k)) c

end Cert.Knn

end
-- ==== Proof.Rounds.lean ====
/-
  What one grid step of the kernel computes, as sixteen rounds over the block of distances.

  The kernel's body is written out sixteen times. Here a round is stated once: from the distances left it takes each
  row's minimum, the first lane that attains it, the coordinates of that lane's point, and the distances with that lane
  overwritten by `+∞`. The sections at the end say that the two blocks the step stores are the rounds side by side.
-/
module

public import proofs.«01_k».proof.Proof.Gen.KernelIdeal.Frame

@[expose] public section

set_option maxRecDepth 16384

noncomputable section

namespace Cert.KernelIdeal.Knn

open Idealize.ShloMosaic Cert.KernelIdeal.Gen

variable {F : FTy → Type} [FloatOps F]

/-- Each row's minimum. -/
def rowMin (d : FVec F S128x8192 .f32) : FVec F S128x1 .f32 :=
  shapeCast S128x1 (multiReduction .minimumf [1] S128 d 0x7F800000#32 reduces_S128x8192_S128 (.inl rfl) rfl)
    shapeCasts_S128_S128x1

/-- The lanes of a row that attain its minimum. -/
def attains (d : FVec F S128x8192 .f32) : IVec S128x8192 1 :=
  cmpf .oeq d (broadcastTo S128x8192 (rowMin d) broadcasts_S128x1_S128x8192)

/-- The lane's number where the minimum is attained, `+∞` elsewhere. -/
def lanesAt (d : FVec F S128x8192 .f32) : FVec F S128x8192 .f32 :=
  select (attains d) (k0_pay2 (F := F)) (broadcast S128x8192 (Scalar.ofBits .f32 0x7F800000#32))

/-- The first lane that attains the row's minimum, as a float. -/
def firstLane (d : FVec F S128x8192 .f32) : FVec F S128x1 .f32 := rowMin (lanesAt d)

/-- The indicator of that lane. -/
def chosen (d : FVec F S128x8192 .f32) : IVec S128x8192 1 :=
  cmpf .oeq (k0_pay2 (F := F)) (broadcastTo S128x8192 (firstLane d) broadcasts_S128x1_S128x8192)

/-- The distances left after the round. -/
def after (d : FVec F S128x8192 .f32) : FVec F S128x8192 .f32 :=
  select (chosen d) (broadcast S128x8192 (Scalar.ofBits .f32 0x7F800000#32)) d

/-- The chosen lane's point: the indicator's product with the table of points. -/
def neighbor (d : FVec F S128x8192 .f32) (pts : Vec F S8192x3 .f32) : FVec F S128x3 .f32 :=
  matmul dot_S128x8192_S8192x3_S128x3_1_0_0_1_n_n none
    (select (chosen d) (broadcast S128x8192 (Scalar.ofBits .f32 0x3F800000#32))
      (broadcast S128x8192 (Scalar.ofBits .f32 0x00000000#32)))
    pts (constant S128x3 .f32 0x00000000#32)

/-- The ten features of the round: the distance, the difference, the point, its neighbor. -/
def features (d : FVec F S128x8192 .f32) (x : Vec F S128x3 .f32) (pts : Vec F S8192x3 .f32) : FVec F S128x10 .f32 :=
  concatenate S128x10 1
    [⟨S128x1, rowMin d⟩, ⟨S128x3, subf x (neighbor d pts)⟩, ⟨S128x3, x⟩, ⟨S128x3, neighbor d pts⟩]
    concatenates_S128x1_S128x3_S128x3_S128x3_S128x10_d1

/-- The distances left after `k` rounds. -/
def left (d : FVec F S128x8192 .f32) : ℕ → FVec F S128x8192 .f32
  | 0 => d
  | k + 1 => after (left d k)

/-! ## One stretch of the body, whatever distances it starts from

Each stretch of the body covers two rounds (the last but one covers three); it starts from the distances, the lanes'
numbers and the value at which the stretch before it stopped. -/

section Stretches

variable (d : FVec F S128x8192 .f32) (x : Vec F S128x3 .f32) (pts : Vec F S8192x3 .f32)

theorem stretch_17 : k0_pay17 k0_pay2 d (attains d) = after (after d) := rfl
theorem stretch_20 : k0_pay20 k0_pay2 d (attains d) = lanesAt (after (after d)) := rfl
theorem stretch_28 : k0_pay28 k0_pay2 d (lanesAt d) = after (after d) := rfl
theorem stretch_32 : k0_pay32 k0_pay2 d (lanesAt d) = chosen (after (after d)) := rfl
theorem stretch_38 : k0_pay38 k0_pay2 d (chosen d) = after (after d) := rfl
theorem stretch_42 : k0_pay42 k0_pay2 d (chosen d) = chosen (after (after d)) := rfl
theorem stretch_50 : k0_pay50 k0_pay2 d (chosen d) = after (after d) := rfl
theorem stretch_54 : k0_pay54 k0_pay2 d (chosen d) = chosen (after (after d)) := rfl
theorem stretch_61 : k0_pay61 k0_pay2 d (chosen d) = after (after d) := rfl
theorem stretch_65 : k0_pay65 k0_pay2 d (chosen d) = chosen (after (after d)) := rfl
theorem stretch_78 : k0_pay78 k0_pay2 d (chosen d) (k0_pay67 (F := F)) = after (after (after d)) := rfl

end Stretches

/-! ## The step's intermediate values -/

section Step

variable (x0 : Vec F S128x3 .f32) (x1 : Vec F S3x8192 .f32) (x2 : Vec F S1x8192 .f32) (x3 : Vec F S8192x3 .f32)

/-- The block of squared distances that the rounds start from. -/
def dist : FVec F S128x8192 .f32 := k0_pay1 (View.ld x0 r0_0) (View.ld x1 r0_1) (View.ld x2 r0_2)

/-- The distances left after `k` rounds of the step. -/
def dists (k : ℕ) : FVec F S128x8192 .f32 := left (dist x0 x1 x2) k

theorem step_88 : k0_pay88 x0 x1 x2 x3 = k0_pay2 := rfl
theorem step_89 : k0_pay89 x0 x1 x2 x3 = dists x0 x1 x2 1 := rfl
theorem step_90 : k0_pay90 x0 x1 x2 x3 = attains (dists x0 x1 x2 1) := rfl
theorem step_91 : k0_pay91 x0 x1 x2 x3 = dists x0 x1 x2 3 := by
  unfold k0_pay91; rw [step_88, step_89, step_90, stretch_17]; rfl
theorem step_92 : k0_pay92 x0 x1 x2 x3 = lanesAt (dists x0 x1 x2 3) := by
  unfold k0_pay92; rw [step_88, step_89, step_90, stretch_20]; rfl
theorem step_93 : k0_pay93 x0 x1 x2 x3 = dists x0 x1 x2 5 := by
  unfold k0_pay93; rw [step_88, step_91, step_92, stretch_28]; rfl
theorem step_94 : k0_pay94 x0 x1 x2 x3 = chosen (dists x0 x1 x2 5) := by
  unfold k0_pay94; rw [step_88, step_91, step_92, stretch_32]; rfl
theorem step_95 : k0_pay95 x0 x1 x2 x3 = dists x0 x1 x2 7 := by
  unfold k0_pay95; rw [step_88, step_93, step_94, stretch_38]; rfl
theorem step_96 : k0_pay96 x0 x1 x2 x3 = chosen (dists x0 x1 x2 7) := by
  unfold k0_pay96; rw [step_88, step_93, step_94, stretch_42]; rfl
theorem step_97 : k0_pay97 x0 x1 x2 x3 = dists x0 x1 x2 9 := by
  unfold k0_pay97; rw [step_88, step_95, step_96, stretch_50]; rfl
theorem step_98 : k0_pay98 x0 x1 x2 x3 = chosen (dists x0 x1 x2 9) := by
  unfold k0_pay98; rw [step_88, step_95, step_96, stretch_54]; rfl
theorem step_99 : k0_pay99 x0 x1 x2 x3 = dists x0 x1 x2 11 := by
  unfold k0_pay99; rw [step_88, step_97, step_98, stretch_61]; rfl
theorem step_100 : k0_pay100 x0 x1 x2 x3 = chosen (dists x0 x1 x2 11) := by
  unfold k0_pay100; rw [step_88, step_97, step_98, stretch_65]; rfl
theorem step_102 : k0_pay102 x0 x1 x2 x3 = dists x0 x1 x2 14 := by
  unfold k0_pay102; rw [step_88, step_99, step_100]; exact stretch_78 _

/-- The features of round `k` of the step. -/
def roundFeatures (k : ℕ) : FVec F S128x10 .f32 := features (dists x0 x1 x2 k) (View.ld x0 r0_0) (View.ld x3 r0_3)

/-- The lane chosen in round `k` of the step. -/
def roundLane (k : ℕ) : FVec F S128x1 .f32 := firstLane (dists x0 x1 x2 k)

theorem concatenates_features : Shape.Concatenates
    ((List.ofFn fun k : Fin 16 => (⟨S128x10, roundFeatures x0 x1 x2 x3 k.val⟩ : (s : Shape) × (s.Idx → F .f32))).map (·.1))
    S128x160 1 := concatenates_S128x10_S128x10_S128x10_S128x10_S128x10_S128x10_S128x10_S128x10_S128x10_S128x10_S128x10_S128x10_S128x10_S128x10_S128x10_S128x10_S128x160_d1

theorem concatenates_lanes : Shape.Concatenates
    ((List.ofFn fun k : Fin 16 => (⟨S128x1, roundLane x0 x1 x2 k.val⟩ : (s : Shape) × (s.Idx → F .f32))).map (·.1))
    S128x16 1 := concatenates_S128x1_S128x1_S128x1_S128x1_S128x1_S128x1_S128x1_S128x1_S128x1_S128x1_S128x1_S128x1_S128x1_S128x1_S128x1_S128x1_S128x16_d1

/-- The block of features: the sixteen rounds' features side by side. -/
def featureBlock : FVec F S128x160 .f32 :=
  concatenate S128x160 1
    (List.ofFn fun k : Fin 16 => (⟨S128x10, roundFeatures x0 x1 x2 x3 k.val⟩ : (s : Shape) × (s.Idx → F .f32)))
    (concatenates_features x0 x1 x2 x3)

/-- The block of indices: the sixteen rounds' lanes side by side, as integers. -/
def laneBlock : IVec S128x16 32 :=
  fptosi 32 (concatenate S128x16 1
    (List.ofFn fun k : Fin 16 => (⟨S128x1, roundLane x0 x1 x2 k.val⟩ : (s : Shape) × (s.Idx → F .f32)))
    (concatenates_lanes x0 x1 x2))

/-- THE FEATURES STORED by a step are the sixteen rounds' features side by side. -/
theorem out0_4_eq : out0_4 x0 x1 x2 x3 = View.canon [⟨r0_4, featureBlock x0 x1 x2 x3⟩] := by
  unfold out0_4
  rw [step_88, step_89, step_90, step_91, step_92, step_93, step_94, step_95, step_96, step_97, step_98, step_99, step_100,
    step_102]
  refine congrArg (fun p => View.canon [⟨r0_4, p⟩]) ?_
  show k0_pay86 (View.ld x0 r0_0) k0_pay2 (roundFeatures x0 x1 x2 x3 0) (roundFeatures x0 x1 x2 x3 1)
    (roundFeatures x0 x1 x2 x3 2) (roundFeatures x0 x1 x2 x3 3) (roundFeatures x0 x1 x2 x3 4)
    (roundFeatures x0 x1 x2 x3 5) (roundFeatures x0 x1 x2 x3 6) (roundFeatures x0 x1 x2 x3 7)
    (roundFeatures x0 x1 x2 x3 8) (roundFeatures x0 x1 x2 x3 9) (roundFeatures x0 x1 x2 x3 10)
    (roundFeatures x0 x1 x2 x3 11) (roundFeatures x0 x1 x2 x3 12) (dists x0 x1 x2 14)
    (roundFeatures x0 x1 x2 x3 13) (View.ld x3 r0_3) (View.ld x3 r0_3) = _
  rfl

/-- THE INDICES STORED by a step are the sixteen rounds' lanes side by side. -/
theorem out0_5_eq : out0_5 x0 x1 x2 x3 = View.canon [⟨r0_5, laneBlock x0 x1 x2⟩] := by
  unfold out0_5
  rw [step_88, step_89, step_90, step_91, step_92, step_93, step_94, step_95, step_96, step_97, step_98, step_99, step_100,
    step_102]
  refine congrArg (fun p => View.canon [⟨r0_5, p⟩]) ?_
  show k0_pay87 k0_pay2 (roundLane x0 x1 x2 0) (roundLane x0 x1 x2 1) (roundLane x0 x1 x2 2) (roundLane x0 x1 x2 3)
    (roundLane x0 x1 x2 4) (roundLane x0 x1 x2 5) (roundLane x0 x1 x2 6) (roundLane x0 x1 x2 7) (roundLane x0 x1 x2 8)
    (roundLane x0 x1 x2 9) (roundLane x0 x1 x2 10) (roundLane x0 x1 x2 11) (roundLane x0 x1 x2 12)
    (roundLane x0 x1 x2 13) (dists x0 x1 x2 14) = _
  rfl

end Step

end Cert.KernelIdeal.Knn

end
-- ==== Proof.Row.lean ====
/-
  The rounds of one grid step, read at an index.

  Row `r` of the block of distances is a function of the lane. When none of its entries is `+∞`, the rounds visit the
  lanes in the order of that row (by value, ties by lane): round `k` finds the lane in place `k`, its distance, and its
  point's coordinates.
-/
module

public import Idealize.ShloMosaic.Lib.Pointwise
public import proofs.«01_k».proof.Proof.Spec
public import proofs.«01_k».proof.Proof.Rounds

@[expose] public section

set_option maxRecDepth 16384

noncomputable section

namespace Cert.KernelIdeal.Knn

open Idealize.ShloMosaic Idealize.ShloMosaic.Pointwise Cert.KernelIdeal.Gen Cert.Knn

/-! ## Scalars -/

/-- The word of `+∞` denotes `⊤`. -/
theorem ofBits_inf : Ideal.ofBits .f32 0x7F800000#32 = ⊤ := by simp [Ideal.ofBits, Ideal.ieee]

/-- Selecting by an equality test is an `if`. -/
theorem select_eq_test {α : Type} (a b : EReal) (x y : α) :
    Scalar.select (Ideal.cmp .oeq a b) x y = if a = b then x else y := by
  unfold Ideal.cmp
  by_cases h : a = b
  · simp only [h, decide_true, BitVec.ofBool_true, if_true]; rfl
  · simp only [h, decide_false, BitVec.ofBool_false, if_false]; rfl

/-- A lane's number below `2^31`, read as a signed word, is itself. -/
theorem sitofp_lane (j : Fin 8192) : FloatOps.sitofp (F := Ideal) FTy.f32 (BitVec.ofNat 32 j.val) = ((j.val : ℝ) : EReal) := by
  show (((BitVec.ofNat 32 j.val).toInt : ℝ) : EReal) = _
  have h : (BitVec.ofNat 32 j.val).toInt = (j.val : ℤ) := by
    rw [BitVec.toInt_ofNat']
    have := j.isLt
    exact Int.bmod_eq_of_le (by omega) (by omega)
  rw [h, Int.cast_natCast]

/-- A lane's number as a float, converted back, is the lane's word. -/
theorem fptosi_lane (j : Fin 8192) : Ideal.fptosi 32 ((j.val : ℝ) : EReal) = BitVec.ofNat 32 j.val := by
  have hj := j.isLt
  unfold Ideal.fptosi
  rw [Ideal.toIntClamped_coe, if_pos (Nat.cast_nonneg _), Int.floor_natCast]
  rw [show max (-((2 ^ (32 - 1) : ℕ) : ℤ)) (min (((2 ^ (32 - 1) : ℕ) : ℤ) - 1) (j.val : ℤ)) = (j.val : ℤ) by
    rw [min_eq_right (by norm_num; omega), max_eq_right (by norm_num)]]
  exact BitVec.ofInt_natCast _ _

/-! ## The operations of a round at an index -/

section Operations

variable (d : FVec Ideal S128x8192 .f32) (r : Fin 128)

/-- A row's minimum is the infimum over its lanes. -/
theorem rowMin_apply (z : Fin 1) : rowMin d (ix2 r z) = Finset.univ.inf fun j : Fin 8192 => d (ix2 r j) := by
  pointwise [rowMin]
  rw [ofBits_inf]
  rfl

/-- The lanes' numbers. -/
theorem lane_apply (j : Fin 8192) : k0_pay2 (F := Ideal) (ix2 r j) = ((j.val : ℝ) : EReal) := by
  pointwise [k0_pay2]
  exact sitofp_lane j

/-- The lane's number where the row's minimum is attained, `⊤` elsewhere. -/
theorem lanesAt_apply (j : Fin 8192) : lanesAt d (ix2 r j)
    = if d (ix2 r j) = rowMin d (ix2 r 0) then ((j.val : ℝ) : EReal) else ⊤ := by
  pointwise [lanesAt, attains]
  rw [ofBits_inf, lane_apply]

/-- A column laid over the lanes. -/
theorem column_apply (w : FVec Ideal S128x1 .f32) (j : Fin 8192) :
    broadcastTo S128x8192 w broadcasts_S128x1_S128x8192 (ix2 r j) = w (ix2 r 0) := by
  pointwise

/-- The test that chooses a lane. -/
theorem chosen_apply (j : Fin 8192) : chosen d (ix2 r j)
    = Ideal.cmp .oeq ((j.val : ℝ) : EReal) (firstLane d (ix2 r 0)) := by
  unfold chosen
  rw [ValueIdx.cmpf_apply, lane_apply, column_apply]
  rfl

/-- The distances left: `⊤` at the chosen lane. -/
theorem after_apply (j : Fin 8192) : after d (ix2 r j)
    = if ((j.val : ℝ) : EReal) = firstLane d (ix2 r 0) then ⊤ else d (ix2 r j) := by
  pointwise [after]
  rw [ofBits_inf, chosen_apply, select_eq_test]

/-- The indicator's product with the table sums the rows of the chosen lanes. -/
theorem neighbor_apply (pts : Vec Ideal S8192x3 .f32) (c : Fin 3) : neighbor d pts (ix2 r c)
    = ∑ j : Fin 8192, if ((j.val : ℝ) : EReal) = firstLane d (ix2 r 0) then pts (ix2 j c) else 0 := by
  pointwise [neighbor]
  exact Finset.sum_congr rfl fun j _ => by rw [chosen_apply, select_eq_test]

end Operations

/-! ## A round on a row that holds what remains of `v` -/

section Round

variable {d : FVec Ideal S128x8192 .f32} {r : Fin 128} {v : Fin 8192 → EReal} {k : Fin 8192}

theorem rowMin_of (hv : ∀ j, v j ≠ ⊤) (h : ∀ j, d (ix2 r j) = rest v k.val j) (z : Fin 1) :
    rowMin d (ix2 r z) = v (order v k) := by
  rw [rowMin_apply, ← rest_inf hv k]
  exact Finset.inf_congr rfl fun j _ => h j

theorem firstLane_of (hv : ∀ j, v j ≠ ⊤) (h : ∀ j, d (ix2 r j) = rest v k.val j) (z : Fin 1) :
    firstLane d (ix2 r z) = (((order v k).val : ℝ) : EReal) := by
  unfold firstLane
  rw [rowMin_apply, ← rest_first hv k]
  exact Finset.inf_congr rfl fun j _ => by rw [lanesAt_apply, rowMin_of hv h, h]

/-- Two lanes with one number are one lane. -/
theorem lane_eq_iff (i j : Fin 8192) : (((i.val : ℝ) : EReal) = ((j.val : ℝ) : EReal)) ↔ i = j := by
  rw [EReal.coe_eq_coe_iff, Nat.cast_inj, Fin.ext_iff]

theorem after_of (hv : ∀ j, v j ≠ ⊤) (h : ∀ j, d (ix2 r j) = rest v k.val j) (j : Fin 8192) :
    after d (ix2 r j) = rest v (k.val + 1) j := by
  rw [after_apply, firstLane_of hv h, rest_succ, h]
  exact if_congr (lane_eq_iff _ _) rfl rfl

theorem neighbor_of (hv : ∀ j, v j ≠ ⊤) (h : ∀ j, d (ix2 r j) = rest v k.val j) (pts : Vec Ideal S8192x3 .f32)
    (c : Fin 3) : neighbor d pts (ix2 r c) = pts (ix2 (order v k) c) := by
  rw [neighbor_apply, firstLane_of hv h]
  simp only [lane_eq_iff, Finset.sum_ite_eq', Finset.mem_univ, if_true]

/-- Starting from a row equal to `v`, what is left after `k` rounds is what remains of `v`. -/
theorem left_of (hv : ∀ j, v j ≠ ⊤) (h : ∀ j, d (ix2 r j) = v j) (m : ℕ) (hm : m ≤ 8192) (j : Fin 8192) :
    left d m (ix2 r j) = rest v m j := by
  induction m generalizing j with
  | zero => exact (h j).trans (rest_zero v j).symm
  | succ m ih =>
    exact after_of (k := ⟨m, hm⟩) hv (fun i => ih (Nat.le_of_succ_le hm) i) j

end Round

theorem features_apply (d : FVec Ideal S128x8192 .f32) (x : Vec Ideal S128x3 .f32) (pts : Vec Ideal S8192x3 .f32)
    (r : Fin 128) (c : Fin 10) : features d x pts (ix2 r c)
      = tenFeatures (rowMin d (ix2 r 0)) (fun a => x (ix2 r a)) (fun a => neighbor d pts (ix2 r a)) c := by
  pointwise [features]
  unfold tenFeatures
  split
  · exact congrArg (fun z => rowMin d (ix2 r z)) (Subsingleton.elim _ _)
  · rfl

/-! ## The step's blocks at an index -/

section Step

variable (x0 : Vec Ideal S128x3 .f32) (x1 : Vec Ideal S3x8192 .f32) (x2 : Vec Ideal S1x8192 .f32)
  (x3 : Vec Ideal S8192x3 .f32)

/-- The squared distance in row `r` at lane `j`. -/
def rowDist (r : Fin 128) (j : Fin 8192) : EReal :=
  (∑ a : Fin 3, x0 (ix2 r a) * x0 (ix2 r a)) + x2 (ix2 0 j)
    - Ideal.ofBits .f32 0x40000000#32 * ∑ a : Fin 3, x0 (ix2 r a) * x1 (ix2 a j)

theorem zero_start : (![0, 0] : Fin 2 → ℕ) = fun _ => 0 := by
  funext a
  fin_cases a <;> rfl

theorem dist_apply (r : Fin 128) (j : Fin 8192) : dist x0 x1 x2 (ix2 r j) = rowDist x0 x1 x2 r j := by
  unfold dist
  rw [View.ld_unit_zero zero_start, View.ld_unit_zero zero_start, View.ld_unit_zero zero_start]
  pointwise [k0_pay1]
  rfl

variable {x0 x1 x2 x3} {r : Fin 128} (hv : ∀ j, rowDist x0 x1 x2 r j ≠ ⊤)

include hv

theorem dists_apply (k : Fin 16) (j : Fin 8192) :
    dists x0 x1 x2 k.val (ix2 r j) = rest (rowDist x0 x1 x2 r) (k.castLE (by decide) : Fin 8192).val j :=
  left_of hv (dist_apply x0 x1 x2 r) k.val (by omega) j

/-- THE FEATURES at row `r`, round `k`: those of the row's point and the point in place `k` of the row's order. -/
theorem featureBlock_apply (k : Fin 16) (c : Fin 10) (q : Fin 160) (hq : q.val = 10 * k.val + c.val) :
    featureBlock x0 x1 x2 x3 (ix2 r q)
      = tenFeatures (rowDist x0 x1 x2 r (order (rowDist x0 x1 x2 r) (k.castLE (by decide)))) (fun a => x0 (ix2 r a))
          (fun a => x3 (ix2 (order (rowDist x0 x1 x2 r) (k.castLE (by decide))) a)) c := by
  unfold featureBlock
  rw [concatenate_ofFn_apply (t := S128x160) (s₁ := S128x10) 1 _ _ rfl 10 rfl (ix2 r q) k (by show q.val / 10 = k.val; omega) (ix2 r c)
    (by show c.val = q.val % 10; omega) (fun b hb => by
      match b with
      | ⟨0, _⟩ => rfl
      | ⟨1, _⟩ => exact absurd rfl hb)]
  unfold roundFeatures
  rw [features_apply, View.ld_unit_zero zero_start, View.ld_unit_zero zero_start, rowMin_of hv (dists_apply hv k)]
  simp only [neighbor_of hv (dists_apply hv k)]

/-- THE INDEX at row `r`, round `k`: the lane in place `k` of the row's order. -/
theorem laneBlock_apply (k : Fin 16) : laneBlock x0 x1 x2 (ix2 r k)
    = BitVec.ofNat 32 (order (rowDist x0 x1 x2 r) (k.castLE (by decide))).val := by
  unfold laneBlock
  show Ideal.fptosi 32 (concatenate S128x16 1 _ _ (ix2 r k)) = _
  rw [concatenate_ofFn_apply (t := S128x16) (s₁ := S128x1) 1 _ _ rfl 1 rfl (ix2 r k) k (by show k.val / 1 = k.val; omega) (ix2 r 0)
    (by show 0 = k.val % 1; omega) (fun b hb => by
      match b with
      | ⟨0, _⟩ => rfl
      | ⟨1, _⟩ => exact absurd rfl hb)]
  unfold roundLane
  rw [firstLane_of hv (dists_apply hv k), fptosi_lane]

end Step

end Cert.KernelIdeal.Knn

end
-- ==== Proof.KernelArray.lean ====
/-
  The kernel's two output arrays after the run.

  Grid step `t` works on rows `128 t … 128 t + 127` of the cloud, against all 8192 points.
-/
module

public import Idealize.ShloMosaic.Lib.Pointwise
public import Idealize.ShloMosaic.Lib.Pipeline.ValueKit
public import Idealize.ShloMosaic.Lib.StableHlo.ReadAt
public import proofs.«01_k».proof.Proof.Row

@[expose] public section

set_option maxRecDepth 16384

noncomputable section

namespace Cert.KernelIdeal.Knn

open Idealize.ShloMosaic Idealize.ShloMosaic.Pointwise Idealize.ShloMosaic.TcCoe Idealize.SL.Sem
open Cert.KernelIdeal Cert.KernelIdeal.Gen Cert.Knn

variable (m : (ℓ : Loc nD τ sig) → Buf (Elt Ideal) ℓ) (c : Dev nD)

/-- The cloud that the argument array holds. -/
def cloud (X : FVec Ideal S1x8192x3 .f32) : Cloud := fun n a => X (ix3 0 n a)

/-- The cloud of device `c`. -/
abbrev pts : Cloud := cloud (m ((c.tc : Thread nD τ).loc main_arg0))

/-- Row `r` of grid step `t` in the whole array. -/
def rowOf (t : Fin cfg0.N) (r : Fin 128) : Fin 8192 :=
  ⟨128 * t.val + r.val, by have := t.isLt; have h : cfg0.N = 64 := N_0; omega⟩

/-! ## The arrays a step reads -/

/-- The points, one a row. -/
theorem points_apply (n : Fin 8192) (a : Fin 3) : V m c main_v4 (ix2 n a) = pts m c n a := by
  unfold pts cloud
  after_reads_at

/-- The coordinates, one a row. -/
theorem coords_apply (a : Fin 3) (j : Fin 8192) : V m c main_v5 (ix2 a j) = pts m c j a := by
  unfold pts cloud
  after_reads_at

/-- The squared lengths of the points. -/
theorem lengths_apply (j : Fin 8192) : V m c main_v6 (ix2 0 j) = dot (pts m c) j j := by
  unfold pts cloud dot
  after_reads_at

/-- The points again, for the look-up of a neighbour. -/
theorem table_apply (n : Fin 8192) (a : Fin 3) : V m c main_v7 (ix2 n a) = pts m c n a := by
  unfold pts cloud
  after_reads_at

/-! ## The blocks a step reads -/

/-- The block indices: the rows' windows follow the grid, the others stay. -/
theorem index_eq : ∀ t : Fin cfg0.N,
    win0_0.index t = ![t.val, 0] ∧ win0_1.index t = ![0, 0] ∧ win0_2.index t = ![0, 0] ∧ win0_3.index t = ![0, 0]
      ∧ win0_4.index t = ![t.val, 0] ∧ win0_5.index t = ![t.val, 0] := by
  decide +kernel

variable (t : Fin cfg0.N)

/-- The block of rows holds the step's own points. -/
theorem rows_block (r : Fin 128) (a : Fin 3) : iblk m c 0 t (ix2 r a) = pts m c (rowOf t r) a := by
  rw [← points_apply]
  unfold rowOf
  blk_ext [iblk, V, index_eq t]

/-- Every step reads all the coordinates. -/
theorem coords_block (a : Fin 3) (j : Fin 8192) : iblk m c 1 t (ix2 a j) = pts m c j a := by
  rw [← coords_apply]
  blk_ext [iblk, V, index_eq t]

/-- Every step reads all the squared lengths. -/
theorem lengths_block (j : Fin 8192) : iblk m c 2 t (ix2 0 j) = dot (pts m c) j j := by
  rw [← lengths_apply]
  blk_ext [iblk, V, index_eq t]

/-- Every step reads the whole cloud for the look-up. -/
theorem table_block (j : Fin 8192) (a : Fin 3) : iblk m c 3 t (ix2 j a) = pts m c j a := by
  rw [← table_apply]
  blk_ext [iblk, V, index_eq t]

/-- Row `r` of the step's distances: the distances from the row's point. -/
theorem rowDist_block (r : Fin 128) :
    rowDist (iblk m c 0 t) (iblk m c 1 t) (iblk m c 2 t) r = pairDist (pts m c) (rowOf t r) := by
  funext j
  unfold rowDist pairDist
  simp only [rows_block, coords_block, lengths_block]
  rfl

/-! ## The output arrays -/

/-- The features: row `n`, column `10 k + c` holds feature `c` of point `n` and its `k`-th nearest point. -/
def featureArray (p : Cloud) : FVec Ideal S8192x160 .f32 := fun i =>
  feature p (i 0) ⟨(i 1).val / 10, by have h : (i 1).val < 160 := (i 1).isLt; omega⟩ ⟨(i 1).val % 10, by omega⟩

/-- The indices: row `n`, column `k` holds the index of the `k`-th nearest point to point `n`. -/
def laneArray (p : Cloud) : IVec S8192x16 32 := fun i => BitVec.ofNat 32 (nearest p (i 0) (i 1)).val

variable (hp : ∀ n j, pairDist (pts m c) n j ≠ ⊤)

include hp in
/-- A step's features are its rows of the features' array. -/
theorem features_block (r : Fin 128) (q : Fin 160) :
    featureBlock (iblk m c 0 t) (iblk m c 1 t) (iblk m c 2 t) (iblk m c 3 t) (ix2 r q)
      = featureArray (pts m c) (ix2 (rowOf t r) q) := by
  rw [featureBlock_apply (k := ⟨q.val / 10, by omega⟩) (c := ⟨q.val % 10, by omega⟩)
    (hv := fun j => by rw [rowDist_block]; exact hp _ j) (hq := by dsimp only; omega)]
  simp only [rowDist_block, rows_block, table_block]
  rfl

include hp in
/-- A step's indices are its rows of the indices' array. -/
theorem lanes_block (r : Fin 128) (k : Fin 16) :
    laneBlock (iblk m c 0 t) (iblk m c 1 t) (iblk m c 2 t) (ix2 r k) = laneArray (pts m c) (ix2 (rowOf t r) k) := by
  rw [laneBlock_apply (hv := fun j => by rw [rowDist_block]; exact hp _ j), rowDist_block]
  rfl

include hp in
/-- The features' array after the run. -/
theorem features_final : (dats m 0 c).arrAt 4 cfg0.N = featureArray (pts m c) := by
  refine (dats m 0 c).arrAt_eq_of_covers 4 _ (by decide +kernel) fun t hf y => ?_
  blk_simp
  rw [after0_4, out0_4_eq]
  frame_out
  obtain ⟨r, q, rfl⟩ : ∃ (r : Fin 128) (q : Fin 160), y = ix2 r q := ⟨y 0, y 1, ValueIdx.eq_ix2 y⟩
  refine (features_block m c t hp r q).trans (congrArg (featureArray (pts m c)) ?_)
  unfold rowOf
  blk_ext [index_eq t]

include hp in
/-- The indices' array after the run. -/
theorem lanes_final : (dats m 0 c).arrAt 5 cfg0.N = laneArray (pts m c) := by
  refine (dats m 0 c).arrAt_eq_of_covers 5 _ (by decide +kernel) fun t hf y => ?_
  blk_simp
  rw [after0_5, out0_5_eq]
  frame_out
  obtain ⟨r, k, rfl⟩ : ∃ (r : Fin 128) (k : Fin 16), y = ix2 r k := ⟨y 0, y 1, ValueIdx.eq_ix2 y⟩
  refine (lanes_block m c t hp r k).trans (congrArg (laneArray (pts m c)) ?_)
  unfold rowOf
  blk_ext [index_eq t]

end Cert.KernelIdeal.Knn

end
-- ==== Proof.KernelRun.lean ====
/-
  What the kernel's program returns: the features and the indices of the nearest points.
-/
module

public import proofs.«01_k».proof.Proof.KernelArray

@[expose] public section

set_option maxRecDepth 16384

noncomputable section

namespace Cert.KernelIdeal.Knn

open Idealize.ShloMosaic Idealize.ShloMosaic.Pointwise Idealize.ShloMosaic.TcCoe Idealize.SL.Sem
open Cert.KernelIdeal Cert.KernelIdeal.Gen Cert.Knn

/-- The features as returned: `[0, n, k, c]` is feature `c` of point `n` and its `k`-th nearest point. -/
def featureResult (p : Cloud) : FVec Ideal S1x8192x16x10 .f32 := fun i => feature p (i 1) (i 2) (i 3)

/-- The indices as returned: `[0, n, k]` is the index of the `k`-th nearest point to point `n`. -/
def laneResult (p : Cloud) : IVec S1x8192x16 32 := fun i => BitVec.ofNat 32 (nearest p (i 1) (i 2)).val

variable (m : (ℓ : Loc nD τ sig) → Buf (Elt Ideal) ℓ) (ρ : Dev nD → PrngReg) (c : Dev nD)
variable (hp : ∀ n j, pairDist (pts m c) n j ≠ ⊤)

/-- The region leaves window `w`'s array in the valuation that the last operations start from. -/
theorem region_arr (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c _ _ w

include hp in
/-- The returned features: the features' array with each row cut into sixteen rounds. -/
theorem tail_features :
    Pipeline.afterTail₀ cfgs (dats m) 0 (V0 m) [hostOps1] c main_v11 = featureResult (pts m c) := by
  funext i
  obtain ⟨z, n, k, f, rfl⟩ : ∃ (z : Fin 1) (n : Fin 8192) (k : Fin 16) (f : Fin 10), i = ix4 z n k f :=
    ⟨i 0, i 1, i 2, i 3, ValueIdx.eq_ix4 i⟩
  unfold Pipeline.afterTail₀
  after_reads_at
  rw [congrFun (region_arr m c 4) _, features_final m c hp]
  show feature (pts m c) n _ _ = feature (pts m c) n k f
  refine congrArg₂ (feature (pts m c) n) (Fin.ext ?_) (Fin.ext ?_)
  · show (k.val * 10 + f.val) / 10 = k.val
    omega
  · show (k.val * 10 + f.val) % 10 = f.val
    omega

include hp in
/-- The returned indices: the indices' array. -/
theorem tail_lanes :
    Pipeline.afterTail₀ cfgs (dats m) 0 (V0 m) [hostOps1] c main_v10 = laneResult (pts m c) := by
  funext i
  obtain ⟨z, n, k, rfl⟩ : ∃ (z : Fin 1) (n : Fin 8192) (k : Fin 16), i = ix3 z n k :=
    ⟨i 0, i 1, i 2, ValueIdx.eq_ix3 i⟩
  unfold Pipeline.afterTail₀
  after_reads_at
  rw [congrFun (region_arr m c 5) _, lanes_final m c hp]
  rfl

/-- THE KERNEL'S RUN, where no distance is `+∞`: it returns the features and the indices of the nearest points, and keeps
    its argument. -/
theorem run (hp : ∀ c n j, pairDist (pts m c) n j ≠ ⊤) :
    θ_run defs (onTc (τ := τ) (main (F := Ideal))) ⟨m, fun _ => 0, ρ⟩ fun r => ∀ c : Dev nD,
      r.2.mem ((c.tc : Thread nD τ).loc main_v11) = featureResult (pts m c)
      ∧ r.2.mem ((c.tc : Thread nD τ).loc main_v10) = laneResult (pts m c)
      ∧ r.2.mem ((c.tc : Thread nD τ).loc main_arg0) = m ((c.tc : Thread nD τ).loc main_arg0) :=
  (θ_run defs _ _).mono (fun _ h c =>
    ⟨((h c).2 main_v11 (Pipeline.mem_restRefs_of main_v11 (by decide) (by decide))).trans (tail_features m c (hp c)),
      ((h c).2 main_v10 (Pipeline.mem_restRefs_of main_v10 (by decide) (by decide))).trans (tail_lanes m c (hp c)),
      ((h c).2 main_arg0 (Pipeline.mem_restRefs_of main_arg0 (by decide) (by decide))).trans (W_main_arg0 m (dats m) c)⟩)
    (run_main m ρ)

end Cert.KernelIdeal.Knn

end
-- ==== Proof.Reference.lean ====
/-
  What the reference returns, read at an index.

  It negates the distances and takes the sixteen greatest of each row, ties by index: the sixteen nearest points, in
  order.
-/
module

public import Idealize.ShloMosaic.Lib.Pointwise
public import Idealize.ShloMosaic.Lib.SortFacts
public import Idealize.ShloMosaic.Lib.Pipeline.Value
public import proofs.«01_k».proof.Proof.Spec
public import proofs.«01_k».proof.Proof.Gen.ReferenceIdeal.Run

@[expose] public section

set_option maxRecDepth 16384

noncomputable section

namespace Cert.ReferenceIdeal.Knn

open Idealize.ShloMosaic Idealize.ShloMosaic.Pointwise Idealize.ShloMosaic.TcCoe Idealize.SL.Sem
open Cert.ReferenceIdeal Cert.ReferenceIdeal.Gen Cert.Knn

variable (X : FVec Ideal S1x8192x3 .f32)

/-- The cloud that the argument array holds. -/
def cloud : Cloud := fun n a => X (ix3 0 n a)

/-- The negated distances. -/
def negDist : FVec Ideal S1x8192x8192 .f32 :=
  Host.negf (subf (addf (broadcastInDim S1x8192x8192 ![0, 1, 2] bcast_S1x8192x1_S1x8192x8192_0_1_2 (broadcastInDim S1x8192x1 ![0, 1] bcast_S1x8192_S1x8192x1_0_1 (Host.reduceAdd (mulf X X) (constant S_ .f32 0x00000000#32) reducesTo_S1x8192x3_S1x8192_d2 h_S_))) (broadcastInDim S1x8192x8192 ![0, 1, 2] bcast_S1x1x8192_S1x8192x8192_0_1_2 (broadcastInDim S1x1x8192 ![0, 2] bcast_S1x8192_S1x1x8192_0_2 (Host.reduceAdd (mulf X X) (constant S_ .f32 0x00000000#32) reducesTo_S1x8192x3_S1x8192_d2 h_S_)))) (mulf (broadcastInDim S1x8192x8192 ![] bcast_S_S1x8192x8192 (constant S_ .f32 0x40000000#32)) (Host.dotGeneral dot_S1x8192x3_S1x8192x3_S1x8192x8192_2_2_1_1_0_0 none X X)))

/-- Entry `(n, j)` is the distance of points `n` and `j`, negated. -/
theorem negDist_apply (n j : Fin 8192) : negDist X (ix3 0 n j) = -pairDist (cloud X) n j := by
  unfold pairDist dot cloud
  pointwise [negDist]
  done

/-! ## The sixteen greatest of a row -/

/-- The entries met by going along a row. -/
theorem along_row (n j : Fin 8192) :
    (fun k : Fin 8192 => (ix3 0 n j : S1x8192x8192.Idx).along 2 k) = fun k => ix3 0 n k := by
  funext k a
  match a with
  | ⟨0, _⟩ => rfl
  | ⟨1, _⟩ => rfl
  | ⟨2, _⟩ => rfl

/-- Cutting each row to its first sixteen entries. -/
theorem slice_row {α : Type} (x : S1x8192x8192.Idx → α) (n : Fin 8192) (k : Fin 16) :
    extractStridedSlice S1x8192x16 (fun _ => 0) x sliceFits_S1x8192x8192_S1x8192x16 (ix3 0 n k)
      = x (ix3 0 n (k.castLE (by decide))) :=
  extractStridedSlice_apply _ x _ _ _ fun a => by
    match a with
    | ⟨0, _⟩ => rfl
    | ⟨1, _⟩ => exact (Nat.zero_add _).symm
    | ⟨2, _⟩ => exact (Nat.zero_add _).symm

section TopK

variable {α : Type} (gt : α → α → BitVec 1) (x : S1x8192x8192.Idx → α) (n : Fin 8192) (k : Fin 16)

/-- The order in which a row is sorted, the greatest first. -/
def rowOrder : Fin 8192 → Fin 8192 := sortedFrom fun a b => gt (x (ix3 0 n a)) (x (ix3 0 n b)) == 1#1

/-- The greatest values of a row are its values at the first places of its order. -/
theorem topK_values :
    (Host.topK S1x8192x16 2 gt x sliceFits_S1x8192x8192_S1x8192x16).1 (ix3 0 n k)
      = x (ix3 0 n (rowOrder gt x n (k.castLE (by decide)))) := by
  unfold Host.topK Host.sort2
  dsimp only
  rw [slice_row]
  rw [dif_pos (show 2 < S1x8192x8192.rank by decide)]
  exact congrArg (fun g : Fin 8192 → S1x8192x8192.Idx =>
    x (g (sortedFrom (fun a b => gt (x (g a)) (x (g b)) == 1#1) (k.castLE (by decide))))) (along_row n (k.castLE (by decide)))

/-- And the places returned are the first of that order. -/
theorem topK_places :
    (Host.topK S1x8192x16 2 gt x sliceFits_S1x8192x8192_S1x8192x16).2 (ix3 0 n k)
      = BitVec.ofNat 32 (rowOrder gt x n (k.castLE (by decide))).val := by
  unfold Host.topK Host.sort2
  dsimp only
  rw [slice_row]
  rw [dif_pos (show 2 < S1x8192x8192.rank by decide)]
  dsimp only
  rw [dif_pos (show 2 < 3 by decide)]
  refine (congrArg (fun g : Fin 8192 → S1x8192x8192.Idx => iotaInDim S1x8192x8192 32 ⟨2, by decide⟩
    (g (sortedFrom (fun a b => gt (x (g a)) (x (g b)) == 1#1) (k.castLE (by decide))))) (along_row n (k.castLE (by decide)))).trans ?_
  rw [iotaInDim_apply]
  rfl

end TopK

/-- Sorting a row of negated distances from the greatest is sorting the distances from the least. -/
theorem rowOrder_negDist (n : Fin 8192) :
    rowOrder (FloatOps.cmpfTotal (F := Ideal) (φ := .f32) .gt) (negDist X) n = order (pairDist (cloud X) n) := by
  refine sortedFrom_congr _ _ fun a b _ => ?_
  rw [negDist_apply, negDist_apply]
  show (Ideal.cmp .ogt _ _ == 1#1) = _
  unfold Ideal.cmp
  simp only [EReal.neg_lt_neg_iff]
  cases decide (pairDist (cloud X) n a < pairDist (cloud X) n b) <;> rfl

/-- The sixteen greatest negated distances of each row. -/
def topValues : FVec Ideal S1x8192x16 .f32 :=
  (Host.topK S1x8192x16 2 (FloatOps.cmpfTotal .gt) (negDist X) sliceFits_S1x8192x8192_S1x8192x16).1

/-- Their places. -/
def topPlaces : IVec S1x8192x16 32 :=
  (Host.topK S1x8192x16 2 (FloatOps.cmpfTotal .gt) (negDist X) sliceFits_S1x8192x8192_S1x8192x16).2

/-- The values are the negated distances of the nearest points. -/
theorem topValues_apply (n : Fin 8192) (k : Fin 16) :
    topValues X (ix3 0 n k) = -pairDist (cloud X) n (nearest (cloud X) n k) := by
  unfold topValues nearest
  rw [topK_values, rowOrder_negDist, negDist_apply]

/-- The places are the indices of the nearest points. -/
theorem topPlaces_apply (n : Fin 8192) (k : Fin 16) :
    topPlaces X (ix3 0 n k) = BitVec.ofNat 32 (nearest (cloud X) n k).val := by
  unfold topPlaces nearest
  rw [topK_places, rowOrder_negDist]

/-! ## The neighbours -/

/-- The word of a place, read as a signed number. -/
theorem toInt_place (j : Fin 8192) : (BitVec.ofNat 32 j.val).toInt = j.val := by
  have h := j.isLt
  rw [BitVec.toInt_ofNat', Int.bmod_eq_of_le] <;> omega

/-- The places as the look-up takes them: a negative one would count from the end. -/
def wrapped (p : IVec S1x8192x16 32) : IVec S1x8192x16x1 32 :=
  broadcastInDim S1x8192x16x1 ![0, 1, 2] bcast_S1x8192x16_S1x8192x16x1_0_1_2
    (select (cmpi .slt p (broadcastInDim S1x8192x16 ![] bcast_S_S1x8192x16 (constantI S_ 32 0#32)))
      (addi p (broadcastInDim S1x8192x16 ![] bcast_S_S1x8192x16 (constantI S_ 32 8192#32))) p)

/-- A place of the array is not negative, and is taken as it is. -/
theorem wrapped_apply (p : IVec S1x8192x16 32) (n : Fin 8192) (k : Fin 16) (j : Fin 8192)
    (hj : p (ix3 0 n k) = BitVec.ofNat 32 j.val) : wrapped p (ix4 0 n k 0) = BitVec.ofNat 32 j.val := by
  pointwise [wrapped]
  rw [hj]
  have h : IntOp.cmpi .slt (BitVec.ofNat 32 j.val) 0#32 = 0#1 := by
    show BitVec.ofBool (decide ((BitVec.ofNat 32 j.val).toInt < (0#32 : BitVec 32).toInt)) = 0#1
    rw [toInt_place, decide_eq_false (by exact Int.not_lt.2 (Int.natCast_nonneg _))]
    rfl
  rw [h]
  rfl

/-- Looking up a point by its index. -/
theorem gather_apply (idx : IVec S1x8192x16x1 32) (n : Fin 8192) (k : Fin 16) (j : Fin 8192) (a : Fin 3)
    (hj : idx (ix4 0 n k 0) = BitVec.ofNat 32 j.val) :
    Host.gather gather_S1x8192x3_S1x8192x16x1_S1x8192x16x3_3_1_0_0_1_3_113 X idx (ix4 0 n k a) = cloud X j a := by
  unfold Host.gather cloud
  refine congrArg X (funext fun b => Fin.ext ?_)
  show gather_S1x8192x3_S1x8192x16x1_S1x8192x16x3_3_1_0_0_1_3_113.start _ idx b
    + gather_S1x8192x3_S1x8192x16x1_S1x8192x16x3_3_1_0_0_1_3_113.batchCoord _ b
    + gather_S1x8192x3_S1x8192x16x1_S1x8192x16x3_3_1_0_0_1_3_113.offCoord _ b = _
  have hs : gather_S1x8192x3_S1x8192x16x1_S1x8192x16x3_3_1_0_0_1_3_113.siIdx (ix4 0 n k a) ⟨0, by decide⟩ = ix4 0 n k 0 := by
    funext b
    refine Fin.ext ?_
    match b with
    | ⟨0, _⟩ => rfl
    | ⟨1, _⟩ => rfl
    | ⟨2, _⟩ => rfl
    | ⟨3, _⟩ => rfl
  match b with
  | ⟨0, _⟩ => rfl
  | ⟨1, _⟩ =>
    show min (idx (gather_S1x8192x3_S1x8192x16x1_S1x8192x16x3_3_1_0_0_1_3_113.siIdx (ix4 0 n k a) ⟨0, by decide⟩)).toInt.toNat 8191
      + 0 + 0 = j.val
    rw [hs, hj, toInt_place]
    omega
  | ⟨2, _⟩ =>
    show 0 + 0 + a.val = a.val
    omega

/-- The coordinates of the neighbours. -/
def neighbours : FVec Ideal S1x8192x16x3 .f32 :=
  Host.gather gather_S1x8192x3_S1x8192x16x1_S1x8192x16x3_3_1_0_0_1_3_113 X (wrapped (topPlaces X))

/-- They are the coordinates of the nearest points. -/
theorem neighbours_apply (n : Fin 8192) (k : Fin 16) (a : Fin 3) :
    neighbours X (ix4 0 n k a) = cloud X (nearest (cloud X) n k) a :=
  gather_apply X _ n k _ a (wrapped_apply _ n k _ (topPlaces_apply X n k))

/-- The points, each repeated for its sixteen neighbours. -/
def repeated : FVec Ideal S1x8192x16x3 .f32 :=
  broadcastInDim S1x8192x16x3 ![0, 1, 2, 3] bcast_S1x8192x1x3_S1x8192x16x3_0_1_2_3
    (broadcastInDim S1x8192x1x3 ![0, 1, 3] bcast_S1x8192x3_S1x8192x1x3_0_1_3 X)

/-- The distances of the neighbours. -/
def distances : FVec Ideal S1x8192x16x1 .f32 :=
  broadcastInDim S1x8192x16x1 ![0, 1, 2] bcast_S1x8192x16_S1x8192x16x1_0_1_2 (Host.negf (topValues X))

/-- The returned features. -/
def features : FVec Ideal S1x8192x16x10 .f32 :=
  concatenate S1x8192x16x10 3 [⟨S1x8192x16x1, distances X⟩, ⟨S1x8192x16x3, subf (repeated X) (neighbours X)⟩,
    ⟨S1x8192x16x3, repeated X⟩, ⟨S1x8192x16x3, neighbours X⟩]
    concatenates_S1x8192x16x1_S1x8192x16x3_S1x8192x16x3_S1x8192x16x3_S1x8192x16x10_d3

/-- The returned features are those of each point and its nearest points. -/
theorem features_apply (n : Fin 8192) (k : Fin 16) (c : Fin 10) :
    features X (ix4 0 n k c) = feature (cloud X) n k c := by
  unfold feature tenFeatures
  pointwise [features, distances, repeated]
  simp only [neighbours_apply, topValues_apply, neg_neg, dite_eq_ite]
  rfl

/-! ## The run -/

variable (m : (ℓ : Loc nD τ sig) → Buf (Elt Ideal) ℓ) (ρ : Dev nD → PrngReg)

/-- THE REFERENCE'S RUN: it returns the features and the places above, and keeps its argument. -/
theorem run :
    θ_run defs (onTc (τ := τ) (main (F := Ideal))) ⟨m, fun _ => 0, ρ⟩ fun r => ∀ c : Dev nD,
      r.2.mem ((c.tc : Thread nD τ).loc main_v24) = features (m ((c.tc : Thread nD τ).loc main_arg0))
      ∧ r.2.mem ((c.tc : Thread nD τ).loc main_indices) = topPlaces (m ((c.tc : Thread nD τ).loc main_arg0))
      ∧ r.2.mem ((c.tc : Thread nD τ).loc main_arg0) = m ((c.tc : Thread nD τ).loc main_arg0) :=
  (θ_run defs _ _).mono (fun _ h c => ⟨(h c).1.trans rfl, (h c).2.1.trans rfl, (h c).2.2⟩)
    (Cert.ReferenceIdeal.Value.run (F := Ideal) m ρ)

end Cert.ReferenceIdeal.Knn

end
-- ==== Proof.Finite.lean ====
/-
  The precondition: every coordinate is finite. Then no distance is `+∞`.
-/
module

public import Idealize.ShloMosaic.Lib.Pointwise
public import Idealize.ShloMosaic.Lib.ReduceAll
public import proofs.«01_k».proof.Defs
public import proofs.«01_k».proof.Proof.Spec

@[expose] public section

set_option maxRecDepth 16384

noncomputable section

namespace Cert.Knn

open Idealize.ShloMosaic Idealize.ShloMosaic.Pointwise

/-- The side conditions of the precondition's operations. -/
theorem finite_facts : Cert.Pre_finite.Facts := ⟨by decide, by decide, by decide⟩

/-- The constant two. -/
theorem ofBits_two : Ideal.ofBits .f32 0x40000000#32 = ((2 : ℝ) : EReal) := by
  have h : ((8388608 : ℝ) : EReal) * (((2 ^ 22)⁻¹ : ℝ) : EReal) = ((2 : ℝ) : EReal) := by
    rw [← EReal.coe_mul]
    norm_num
  simpa [Ideal.ofBits, Ideal.ieee] using h

/-- Where every coordinate is a real number, so is every distance. -/
theorem pairDist_ne_top (p : Cloud) (hp : ∀ n a, ∃ x : ℝ, p n a = (x : EReal)) (n j : Fin 8192) : pairDist p n j ≠ ⊤ := by
  choose q hq using hp
  unfold pairDist dot
  simp only [hq, ofBits_two, Fin.sum_univ_three, ← EReal.coe_mul, ← EReal.coe_add, ← EReal.coe_sub]
  exact EReal.coe_ne_top _

variable [Cert.Pre_finite.Facts]

/-- The precondition says that every coordinate is a real number. -/
theorem real_of_finite (x : FVec Ideal Cert.Pre_finite.S1x8192x3 .f32) (h : Cert.Pre_finite.fn (F := Ideal) x = fun _ => 1#1)
    (i : Cert.Pre_finite.S1x8192x3.Idx) : ∃ r : ℝ, x i = (r : EReal) := by
  unfold Cert.Pre_finite.fn at h
  have h := Host.reduce_andi_eq_one _ _ _ _ _ (congrFun h default) i (funext fun a => a.elim0)
  rw [ValueIdx.cmpf_apply, Ideal.cmpf_def] at h
  change BitVec.ofBool (decide (max (x i) (-x i) < Ideal.ofBits .f32 0x7F800000#32)) = 1#1 at h
  have hlt : max (x i) (-x i) < ⊤ := by
    rw [show Ideal.ofBits .f32 0x7F800000#32 = ⊤ by simp [Ideal.ofBits, Ideal.ieee]] at h
    by_contra hn
    rw [decide_eq_false hn] at h
    exact absurd h (by decide)
  have htop : x i ≠ ⊤ := fun e => absurd ((le_max_left (x i) (-x i)).trans_lt hlt) (by rw [e]; exact lt_irrefl _)
  have hbot : x i ≠ ⊥ := fun e =>
    absurd ((le_max_right (x i) (-x i)).trans_lt hlt) (by rw [e, EReal.neg_bot]; exact lt_irrefl _)
  exact ⟨(x i).toReal, (EReal.coe_toReal htop hbot).symm⟩

end Cert.Knn

end
-- ==== Proof.lean ====
/-
  The claims, assembled.

  Both programs return, for each point of the cloud, the features and the indices of its sixteen nearest points
  (Proof/Spec.lean). The kernel finds them in sixteen rounds of taking the least distance left (Proof/Rounds.lean,
  Proof/Row.lean), block by block (Proof/KernelArray.lean, Proof/KernelRun.lean); the reference by a top-k of the negated
  distances (Proof/Reference.lean). The rounds need every distance to be below `+∞`, which finite coordinates give
  (Proof/Finite.lean).
-/
module

public import proofs.«01_k».proof.Defs
public import proofs.«01_k».proof.Proof.Gen.Kernel.Frame
public import proofs.«01_k».proof.Proof.KernelRun
public import proofs.«01_k».proof.Proof.Reference
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.Pointwise Idealize.SL.Sem

/-- The kernel ends, keeps its argument, and leaves every counter at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference; it has no counter. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Knn.run m ρ)

section Value

/-- The reference's features are the kernel's. -/
theorem features_eq (X : FVec Ideal Cert.KernelIdeal.S1x8192x3 .f32) :
    Cert.ReferenceIdeal.Knn.features X = Cert.KernelIdeal.Knn.featureResult (Cert.KernelIdeal.Knn.cloud X) := by
  funext i
  obtain ⟨z, n, k, c, rfl⟩ : ∃ (z : Fin 1) (n : Fin 8192) (k : Fin 16) (c : Fin 10), i = ix4 z n k c :=
    ⟨i 0, i 1, i 2, i 3, ValueIdx.eq_ix4 i⟩
  obtain rfl : z = 0 := Subsingleton.elim _ _
  exact Cert.ReferenceIdeal.Knn.features_apply X n k c

/-- The reference's indices are the kernel's. -/
theorem places_eq (X : FVec Ideal Cert.KernelIdeal.S1x8192x3 .f32) :
    Cert.ReferenceIdeal.Knn.topPlaces X = Cert.KernelIdeal.Knn.laneResult (Cert.KernelIdeal.Knn.cloud X) := by
  funext i
  obtain ⟨z, n, k, rfl⟩ : ∃ (z : Fin 1) (n : Fin 8192) (k : Fin 16), i = ix3 z n k := ⟨i 0, i 1, i 2, ValueIdx.eq_ix3 i⟩
  obtain rfl : z = 0 := Subsingleton.elim _ _
  exact Cert.ReferenceIdeal.Knn.topPlaces_apply X n k

variable [Cert.Pre_finite.Facts]

/-- On a finite cloud the kernel and the reference return the same features and the same indices. -/
theorem algebraic : Cert.algebraic_KernelIdeal_ReferenceIdeal_pre_finite := by
  intro m ρ m' ρ' hpre hagree
  have hp (c : Dev Cert.KernelIdeal.nD) (n j : Fin 8192) : Cert.Knn.pairDist (Cert.KernelIdeal.Knn.pts m c) n j ≠ ⊤ :=
    Cert.Knn.pairDist_ne_top _ (fun n a => Cert.Knn.real_of_finite _ (hpre c) (ix3 0 n a)) n j
  refine ⟨fun c => Cert.KernelIdeal.Knn.featureResult (Cert.KernelIdeal.Knn.pts m c),
    fun c => Cert.KernelIdeal.Knn.laneResult (Cert.KernelIdeal.Knn.pts m c), Cert.KernelIdeal.Knn.run m ρ hp, ?_⟩
  refine (θ_run Cert.ReferenceIdeal.defs _ _).mono (fun _ h c => ⟨(h c).1.trans ?_, (h c).2.1.trans ?_, (h c).2.2⟩)
    (Cert.ReferenceIdeal.Knn.run m' ρ')
  · rw [hagree c]
    exact features_eq _
  · rw [hagree c]
    exact places_eq _

end Value

/-- Everything claimed. -/
theorem claim : Cert.Claim :=
  ⟨Cert.Kernel.Gen.facts, Cert.KernelIdeal.Gen.facts, Cert.ReferenceIdeal.Gen.facts, Cert.Knn.finite_facts,
    frame_kernel, frame_ideal, fun m ρ _ => frame_ideal m ρ trivial, frame_reference,
    fun m ρ _ => frame_reference m ρ trivial, trivial, @algebraic Cert.Knn.finite_facts⟩

end Cert.Proof

end
